-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ev [hPre_finite_ev : Cert.Pre_finite_ev.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ev.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ev [hPre_finite_ev : Cert.Pre_finite_ev.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ev.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_ev [hKernelIdeal : Cert.KernelIdeal.Facts] [hPre_finite_ev : Cert.Pre_finite_ev.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ev m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_ev [hReferenceIdeal : Cert.ReferenceIdeal.Facts] [hPre_finite_ev : Cert.Pre_finite_ev.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ev m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_ev [hKernelIdeal : Cert.KernelIdeal.Facts] [hReferenceIdeal : Cert.ReferenceIdeal.Facts] [hPre_finite_ev : Cert.Pre_finite_ev.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ev m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_ev : Cert.Pre_finite_ev.Facts),
    quiescent_Kernel (hKernel := hKernel)
    ∧ quiescent_KernelIdeal (hKernelIdeal := hKernelIdeal)
    ∧ quiescent_KernelIdeal_pre_finite_ev (hKernelIdeal := hKernelIdeal) (hPre_finite_ev := hPre_finite_ev)
    ∧ quiescent_ReferenceIdeal (hReferenceIdeal := hReferenceIdeal)
    ∧ quiescent_ReferenceIdeal_pre_finite_ev (hReferenceIdeal := hReferenceIdeal) (hPre_finite_ev := hPre_finite_ev)
    ∧ preserves_Kernel_KernelIdeal
    ∧ algebraic_KernelIdeal_ReferenceIdeal_pre_finite_ev (hKernelIdeal := hKernelIdeal) (hReferenceIdeal := hReferenceIdeal) (hPre_finite_ev := hPre_finite_ev)
-- ==== Pre_finite_ev.lean ====
abbrev S10000x128 : Shape := ⟨2, ![10000, 128]⟩
abbrev S10000x9 : Shape := ⟨2, ![10000, 9]⟩
abbrev S320000 : Shape := ⟨1, ![320000]⟩
abbrev S320000x9 : Shape := ⟨2, ![320000, 9]⟩
abbrev S128x8 : Shape := ⟨2, ![128, 8]⟩
abbrev S128 : Shape := ⟨1, ![128]⟩
abbrev S128x128 : Shape := ⟨2, ![128, 128]⟩
abbrev S32x3 : Shape := ⟨2, ![32, 3]⟩
abbrev S32 : Shape := ⟨1, ![32]⟩
abbrev S128x32 : Shape := ⟨2, ![128, 32]⟩
abbrev S131x131 : Shape := ⟨2, ![131, 131]⟩
abbrev S131 : Shape := ⟨1, ![131]⟩
abbrev S_ : Shape := ⟨0, ![]⟩

class Facts : Prop where
  bcast_S_S10000x9 : S_.BroadcastsInDim S10000x9 (![] : Fin 0 → Fin S10000x9.rank)

variable [Facts]

def fn {F : FTy → Type} [FloatOps F] (main_arg0 : FVec F S10000x128 .f32) (main_arg1 : FVec F S10000x9 .f32) (main_arg2 : IVec S320000 32) (main_arg3 : IVec S320000 32) (main_arg4 : FVec F S320000x9 .f32) (main_arg5 : FVec F S320000 .f32) (main_arg6 : FVec F S320000 .f32) (main_arg7 : FVec F S128x8 .f32) (main_arg8 : FVec F S128 .f32) (main_arg9 : FVec F S128x128 .f32) (main_arg10 : FVec F S128 .f32) (main_arg11 : FVec F S32x3 .f32) (main_arg12 : FVec F S32 .f32) (main_arg13 : FVec F S128x32 .f32) (main_arg14 : FVec F S128 .f32) (main_arg15 : FVec F S128x8 .f32) (main_arg16 : FVec F S128 .f32) (main_arg17 : FVec F S128x128 .f32) (main_arg18 : FVec F S128 .f32) (main_arg19 : FVec F S32x3 .f32) (main_arg20 : FVec F S32 .f32) (main_arg21 : FVec F S128x32 .f32) (main_arg22 : FVec F S128 .f32) (main_arg23 : FVec F S131x131 .f32) (main_arg24 : FVec F S131 .f32) : IVec S10000x9 1 :=
  let main_v0 : FVec F S10000x9 .f32 := Host.absf main_arg1
  let main_cst : FVec F S_ .f32 := constant S_ .f32 0x7F800000#32
  let main_v1 : FVec F S10000x9 .f32 := broadcastInDim S10000x9 ![] bcast_S_S10000x9 main_cst
  let main_v2 : IVec S10000x9 1 := cmpf .olt main_v0 main_v1
  main_v2
-- ==== Kernel.lean ====
abbrev S10000x128 : Shape := ⟨2, ![10000, 128]⟩
abbrev S10000x9 : Shape := ⟨2, ![10000, 9]⟩
abbrev S320000 : Shape := ⟨1, ![320000]⟩
abbrev S320000x9 : Shape := ⟨2, ![320000, 9]⟩
abbrev S128x8 : Shape := ⟨2, ![128, 8]⟩
abbrev S128 : Shape := ⟨1, ![128]⟩
abbrev S128x128 : Shape := ⟨2, ![128, 128]⟩
abbrev S32x3 : Shape := ⟨2, ![32, 3]⟩
abbrev S32 : Shape := ⟨1, ![32]⟩
abbrev S128x32 : Shape := ⟨2, ![128, 32]⟩
abbrev S131x131 : Shape := ⟨2, ![131, 131]⟩
abbrev S131 : Shape := ⟨1, ![131]⟩
abbrev S3x9 : Shape := ⟨2, ![3, 9]⟩
abbrev S_ : Shape := ⟨0, ![]⟩
abbrev S128x3 : Shape := ⟨2, ![128, 3]⟩
abbrev S128x3x1 : Shape := ⟨3, ![128, 3, 1]⟩
abbrev S1x3x9 : Shape := ⟨3, ![1, 3, 9]⟩
abbrev S128x3x9 : Shape := ⟨3, ![128, 3, 9]⟩
abbrev S128x9 : Shape := ⟨2, ![128, 9]⟩
abbrev S128x137 : Shape := ⟨2, ![128, 137]⟩
abbrev S3x128 : Shape := ⟨2, ![3, 128]⟩
abbrev S3x3 : Shape := ⟨2, ![3, 3]⟩
abbrev S3x3x1 : Shape := ⟨3, ![3, 3, 1]⟩
abbrev S3x3x9 : Shape := ⟨3, ![3, 3, 9]⟩
abbrev S3x137 : Shape := ⟨2, ![3, 137]⟩
abbrev S3 : Shape := ⟨1, ![3]⟩
abbrev S3x1 : Shape := ⟨2, ![3, 1]⟩
abbrev S9 : Shape := ⟨1, ![9]⟩
abbrev S137 : Shape := ⟨1, ![137]⟩
abbrev S1x137 : Shape := ⟨2, ![1, 137]⟩
abbrev S1x10000x9 : Shape := ⟨3, ![1, 10000, 9]⟩
abbrev S1x9x10000 : Shape := ⟨3, ![1, 9, 10000]⟩
abbrev S9x10000 : Shape := ⟨2, ![9, 10000]⟩
abbrev S3x10000 : Shape := ⟨2, ![3, 10000]⟩
abbrev S10000x137 : Shape := ⟨2, ![10000, 137]⟩

abbrev nBuf : Space → Nat
  | .hbm => 80
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x9, .f32⟩
  | .hbm, ⟨2, _⟩ => ⟨S320000, .i32⟩
  | .hbm, ⟨3, _⟩ => ⟨S320000, .i32⟩
  | .hbm, ⟨4, _⟩ => ⟨S320000x9, .f32⟩
  | .hbm, ⟨5, _⟩ => ⟨S320000, .f32⟩
  | .hbm, ⟨6, _⟩ => ⟨S320000, .f32⟩
  | .hbm, ⟨7, _⟩ => ⟨S128x8, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x3, .f32⟩
  | .hbm, ⟨12, _⟩ => ⟨S32, .f32⟩
  | .hbm, ⟨13, _⟩ => ⟨S128x32, .f32⟩
  | .hbm, ⟨14, _⟩ => ⟨S128, .f32⟩
  | .hbm, ⟨15, _⟩ => ⟨S128x8, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S32x3, .f32⟩
  | .hbm, ⟨20, _⟩ => ⟨S32, .f32⟩
  | .hbm, ⟨21, _⟩ => ⟨S128x32, .f32⟩
  | .hbm, ⟨22, _⟩ => ⟨S128, .f32⟩
  | .hbm, ⟨23, _⟩ => ⟨S131x131, .f32⟩
  | .hbm, ⟨24, _⟩ => ⟨S131, .f32⟩
  | .hbm, ⟨25, _⟩ => ⟨S3x9, .f32⟩
  | .hbm, ⟨26, _⟩ => ⟨S131x131, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x3, .f32⟩
  | .hbm, ⟨32, _⟩ => ⟨S128x3x1, .f32⟩
  | .hbm, ⟨33, _⟩ => ⟨S1x3x9, .f32⟩
  | .hbm, ⟨34, _⟩ => ⟨S128x3x9, .f32⟩
  | .hbm, ⟨35, _⟩ => ⟨S128x3x9, .f32⟩
  | .hbm, ⟨36, _⟩ => ⟨S128x3x9, .f32⟩
  | .hbm, ⟨37, _⟩ => ⟨S_, .f32⟩
  | .hbm, ⟨38, _⟩ => ⟨S128x9, .f32⟩
  | .hbm, ⟨39, _⟩ => ⟨S_, .f32⟩
  | .hbm, ⟨40, _⟩ => ⟨S128x9, .f32⟩
  | .hbm, ⟨41, _⟩ => ⟨S128x9, .f32⟩
  | .hbm, ⟨42, _⟩ => ⟨S128x137, .f32⟩
  | .hbm, ⟨43, _⟩ => ⟨S3x128, .f32⟩
  | .hbm, ⟨44, _⟩ => ⟨S3x3, .f32⟩
  | .hbm, ⟨45, _⟩ => ⟨S3x3x1, .f32⟩
  | .hbm, ⟨46, _⟩ => ⟨S1x3x9, .f32⟩
  | .hbm, ⟨47, _⟩ => ⟨S3x3x9, .f32⟩
  | .hbm, ⟨48, _⟩ => ⟨S3x3x9, .f32⟩
  | .hbm, ⟨49, _⟩ => ⟨S3x3x9, .f32⟩
  | .hbm, ⟨50, _⟩ => ⟨S_, .f32⟩
  | .hbm, ⟨51, _⟩ => ⟨S3x9, .f32⟩
  | .hbm, ⟨52, _⟩ => ⟨S_, .f32⟩
  | .hbm, ⟨53, _⟩ => ⟨S3x9, .f32⟩
  | .hbm, ⟨54, _⟩ => ⟨S3x9, .f32⟩
  | .hbm, ⟨55, _⟩ => ⟨S3x137, .f32⟩
  | .hbm, ⟨56, _⟩ => ⟨S128, .f32⟩
  | .hbm, ⟨57, _⟩ => ⟨S3, .f32⟩
  | .hbm, ⟨58, _⟩ => ⟨S3x1, .f32⟩
  | .hbm, ⟨59, _⟩ => ⟨S3x9, .f32⟩
  | .hbm, ⟨60, _⟩ => ⟨S3x9, .f32⟩
  | .hbm, ⟨61, _⟩ => ⟨S_, .f32⟩
  | .hbm, ⟨62, _⟩ => ⟨S9, .f32⟩
  | .hbm, ⟨63, _⟩ => ⟨S_, .f32⟩
  | .hbm, ⟨64, _⟩ => ⟨S9, .f32⟩
  | .hbm, ⟨65, _⟩ => ⟨S9, .f32⟩
  | .hbm, ⟨66, _⟩ => ⟨S_, .f32⟩
  | .hbm, ⟨67, _⟩ => ⟨S9, .f32⟩
  | .hbm, ⟨68, _⟩ => ⟨S9, .f32⟩
  | .hbm, ⟨69, _⟩ => ⟨S137, .f32⟩
  | .hbm, ⟨70, _⟩ => ⟨S1x137, .f32⟩
  | .hbm, ⟨71, _⟩ => ⟨S_, .f32⟩
  | .hbm, ⟨72, _⟩ => ⟨S3x9, .f32⟩
  | .hbm, ⟨73, _⟩ => ⟨S3x9, .f32⟩
  | .hbm, ⟨74, _⟩ => ⟨S1x10000x9, .f32⟩
  | .hbm, ⟨75, _⟩ => ⟨S1x9x10000, .f32⟩
  | .hbm, ⟨76, _⟩ => ⟨S10000x128, .f32⟩
  | .hbm, ⟨77, _⟩ => ⟨S1x9x10000, .f32⟩
  | .hbm, ⟨78, _⟩ => ⟨S1x10000x9, .f32⟩
  | .hbm, ⟨79, _⟩ => ⟨S10000x9, .f32⟩
  | .local _ .vmem, ⟨0, _⟩ => ⟨S10000x128, .f32⟩
  | .local _ .vmem, ⟨1, _⟩ => ⟨S1x9x10000, .f32⟩
  | .local _ .vmem, ⟨2, _⟩ => ⟨S128x137, .f32⟩
  | .local _ .vmem, ⟨3, _⟩ => ⟨S3x137, .f32⟩
  | .local _ .vmem, ⟨4, _⟩ => ⟨S3x9, .f32⟩
  | .local _ .vmem, ⟨5, _⟩ => ⟨S1x137, .f32⟩
  | .local _ .vmem, ⟨6, _⟩ => ⟨S10000x128, .f32⟩
  | .local _ .vmem, ⟨7, _⟩ => ⟨S1x9x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41_0 : Ref sig .tc := ⟨.hbm, 76, rfl⟩
abbrev main_v41_1 : Ref sig .tc := ⟨.hbm, 77, rfl⟩
abbrev main_v42 : Ref sig .tc := ⟨.hbm, 78, rfl⟩
abbrev main_v43 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x137 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x137 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x137 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x9x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceIdeal.lean ====
abbrev S10000x128 : Shape := ⟨2, ![10000, 128]⟩
abbrev S10000x9 : Shape := ⟨2, ![10000, 9]⟩
abbrev S320000 : Shape := ⟨1, ![320000]⟩
abbrev S320000x9 : Shape := ⟨2, ![320000, 9]⟩
abbrev S128x8 : Shape := ⟨2, ![128, 8]⟩
abbrev S128 : Shape := ⟨1, ![128]⟩
abbrev S128x128 : Shape := ⟨2, ![128, 128]⟩
abbrev S32x3 : Shape := ⟨2, ![32, 3]⟩
abbrev S32 : Shape := ⟨1, ![32]⟩
abbrev S128x32 : Shape := ⟨2, ![128, 32]⟩
abbrev S131x131 : Shape := ⟨2, ![131, 131]⟩
abbrev S131 : Shape := ⟨1, ![131]⟩
abbrev S3 : Shape := ⟨1, ![3]⟩
abbrev S_ : Shape := ⟨0, ![]⟩
abbrev S320000x1 : Shape := ⟨2, ![320000, 1]⟩
abbrev S320000x3 : Shape := ⟨2, ![320000, 3]⟩
abbrev S320000x5 : Shape := ⟨2, ![320000, 5]⟩
abbrev S7 : Shape := ⟨1, ![7]⟩
abbrev S1 : Shape := ⟨1, ![1]⟩
abbrev S8 : Shape := ⟨1, ![8]⟩
abbrev S1x8 : Shape := ⟨2, ![1, 8]⟩
abbrev S320000x8 : Shape := ⟨2, ![320000, 8]⟩
abbrev S8x128 : Shape := ⟨2, ![8, 128]⟩
abbrev S320000x128 : Shape := ⟨2, ![320000, 128]⟩
abbrev S1x128 : Shape := ⟨2, ![1, 128]⟩
abbrev S3x32 : Shape := ⟨2, ![3, 32]⟩
abbrev S320000x32 : Shape := ⟨2, ![320000, 32]⟩
abbrev S1x32 : Shape := ⟨2, ![1, 32]⟩
abbrev S32x128 : Shape := ⟨2, ![32, 128]⟩
abbrev S10000x1 : Shape := ⟨2, ![10000, 1]⟩
abbrev S10000 : Shape := ⟨1, ![10000]⟩
abbrev S10000x3 : Shape := ⟨2, ![10000, 3]⟩
abbrev S10000x5 : Shape := ⟨2, ![10000, 5]⟩
abbrev S10000x131 : Shape := ⟨2, ![10000, 131]⟩
abbrev S1x131 : Shape := ⟨2, ![1, 131]⟩
abbrev S2 : Shape := ⟨1, ![2]⟩
abbrev S9 : Shape := ⟨1, ![9]⟩
abbrev S3x1 : Shape := ⟨2, ![3, 1]⟩
abbrev S9x1 : Shape := ⟨2, ![9, 1]⟩
abbrev S1x1 : Shape := ⟨2, ![1, 1]⟩

abbrev nBuf : Space → Nat
  | .hbm => 328
  | .vmem => 0
  | .smem => 0
  | _ => 0

abbrev hbmTy0_0 (i : Nat) : BufTy := match i % 128 with
  | 0 => ⟨S10000x128, .f32⟩
  | 1 => ⟨S10000x9, .f32⟩
  | 2 => ⟨S320000, .i32⟩
  | 3 => ⟨S320000, .i32⟩
  | 4 => ⟨S320000x9, .f32⟩
  | 5 => ⟨S320000, .f32⟩
  | 6 => ⟨S320000, .f32⟩
  | 7 => ⟨S128x8, .f32⟩
  | 8 => ⟨S128, .f32⟩
  | 9 => ⟨S128x128, .f32⟩
  | 10 => ⟨S128, .f32⟩
  | 11 => ⟨S32x3, .f32⟩
  | 12 => ⟨S32, .f32⟩
  | 13 => ⟨S128x32, .f32⟩
  | 14 => ⟨S128, .f32⟩
  | 15 => ⟨S128x8, .f32⟩
  | 16 => ⟨S128, .f32⟩
  | 17 => ⟨S128x128, .f32⟩
  | 18 => ⟨S128, .f32⟩
  | 19 => ⟨S32x3, .f32⟩
  | 20 => ⟨S32, .f32⟩
  | 21 => ⟨S128x32, .f32⟩
  | 22 => ⟨S128, .f32⟩
  | 23 => ⟨S131x131, .f32⟩
  | 24 => ⟨S131, .f32⟩
  | 25 => ⟨S3, .i32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x9, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x9, .f32⟩
  | 44 => ⟨S320000x9, .f32⟩
  | 45 => ⟨S320000x1, .f32⟩
  | 46 => ⟨S320000x1, .f32⟩
  | 47 => ⟨S320000x1, .f32⟩
  | 48 => ⟨S_, .f32⟩
  | 49 => ⟨S320000, .f32⟩
  | 50 => ⟨S320000x1, .f32⟩
  | 51 => ⟨S320000x3, .f32⟩
  | 52 => ⟨S320000x3, .f32⟩
  | 53 => ⟨S320000x3, .f32⟩
  | 54 => ⟨S_, .f32⟩
  | 55 => ⟨S320000, .f32⟩
  | 56 => ⟨S320000x1, .f32⟩
  | 57 => ⟨S320000x5, .f32⟩
  | 58 => ⟨S320000x5, .f32⟩
  | 59 => ⟨S320000x5, .f32⟩
  | 60 => ⟨S_, .f32⟩
  | 61 => ⟨S320000, .f32⟩
  | 62 => ⟨S320000x1, .f32⟩
  | 63 => ⟨S320000x3, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S7, .f32⟩
  | 72 => ⟨S_, .f32⟩
  | 73 => ⟨S7, .f32⟩
  | 74 => ⟨S7, .f32⟩
  | 75 => ⟨S1, .f32⟩
  | 76 => ⟨S_, .f32⟩
  | 77 => ⟨S7, .f32⟩
  | 78 => ⟨S7, .f32⟩
  | 79 => ⟨S7, .f32⟩
  | 80 => ⟨S7, .f32⟩
  | 81 => ⟨S1, .f32⟩
  | 82 => ⟨S7, .f32⟩
  | 83 => ⟨S7, .f32⟩
  | 84 => ⟨S7, .f32⟩
  | 85 => ⟨S1, .f32⟩
  | 86 => ⟨S8, .f32⟩
  | 87 => ⟨S320000x1, .f32⟩
  | 88 => ⟨S1x8, .f32⟩
  | 89 => ⟨S320000x8, .f32⟩
  | 90 => ⟨S320000x8, .f32⟩
  | 91 => ⟨S320000x8, .f32⟩
  | 92 => ⟨S320000x8, .f32⟩
  | 93 => ⟨S_, .f32⟩
  | 94 => ⟨S320000x8, .f32⟩
  | 95 => ⟨S320000x8, .f32⟩
  | 96 => ⟨S320000x8, .f32⟩
  | 97 => ⟨S8x128, .f32⟩
  | 98 => ⟨S320000x128, .f32⟩
  | 99 => ⟨S1x128, .f32⟩
  | 100 => ⟨S320000x128, .f32⟩
  | 101 => ⟨S320000x128, .f32⟩
  | 102 => ⟨S320000x128, .f32⟩
  | 103 => ⟨S320000x128, .f32⟩
  | 104 => ⟨S_, .f32⟩
  | 105 => ⟨S320000x128, .f32⟩
  | 106 => ⟨S320000x128, .f32⟩
  | 107 => ⟨S_, .f32⟩
  | 108 => ⟨S320000x128, .f32⟩
  | 109 => ⟨S320000x128, .f32⟩
  | 110 => ⟨S320000x128, .f32⟩
  | 111 => ⟨S128x128, .f32⟩
  | 112 => ⟨S320000x128, .f32⟩
  | 113 => ⟨S1x128, .f32⟩
  | 114 => ⟨S320000x128, .f32⟩
  | 115 => ⟨S320000x128, .f32⟩
  | 116 => ⟨S320000x128, .f32⟩
  | 117 => ⟨S320000x128, .f32⟩
  | 118 => ⟨S_, .f32⟩
  | 119 => ⟨S320000x128, .f32⟩
  | 120 => ⟨S320000x128, .f32⟩
  | 121 => ⟨S_, .f32⟩
  | 122 => ⟨S320000x128, .f32⟩
  | 123 => ⟨S320000x128, .f32⟩
  | 124 => ⟨S320000x128, .f32⟩
  | 125 => ⟨S3x32, .f32⟩
  | 126 => ⟨S320000x32, .f32⟩
  | 127 => ⟨S1x32, .f32⟩
  | _ => ⟨S10000x128, .f32⟩

abbrev hbmTy0_1 (i : Nat) : BufTy := match i % 128 with
  | 0 => ⟨S320000x32, .f32⟩
  | 1 => ⟨S320000x32, .f32⟩
  | 2 => ⟨S320000x32, .f32⟩
  | 3 => ⟨S320000x32, .f32⟩
  | 4 => ⟨S_, .f32⟩
  | 5 => ⟨S320000x32, .f32⟩
  | 6 => ⟨S320000x32, .f32⟩
  | 7 => ⟨S_, .f32⟩
  | 8 => ⟨S320000x32, .f32⟩
  | 9 => ⟨S320000x32, .f32⟩
  | 10 => ⟨S320000x32, .f32⟩
  | 11 => ⟨S32x128, .f32⟩
  | 12 => ⟨S320000x128, .f32⟩
  | 13 => ⟨S1x128, .f32⟩
  | 14 => ⟨S320000x128, .f32⟩
  | 15 => ⟨S320000x128, .f32⟩
  | 16 => ⟨S320000x128, .f32⟩
  | 17 => ⟨S320000x128, .f32⟩
  | 18 => ⟨S_, .f32⟩
  | 19 => ⟨S320000x128, .f32⟩
  | 20 => ⟨S320000x128, .f32⟩
  | 21 => ⟨S_, .f32⟩
  | 22 => ⟨S320000x128, .f32⟩
  | 23 => ⟨S320000x128, .f32⟩
  | 24 => ⟨S320000x128, .f32⟩
  | 25 => ⟨S320000x128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S7, .f32⟩
  | 34 => ⟨S_, .f32⟩
  | 35 => ⟨S7, .f32⟩
  | 36 => ⟨S7, .f32⟩
  | 37 => ⟨S1, .f32⟩
  | 38 => ⟨S_, .f32⟩
  | 39 => ⟨S7, .f32⟩
  | 40 => ⟨S7, .f32⟩
  | 41 => ⟨S7, .f32⟩
  | 42 => ⟨S7, .f32⟩
  | 43 => ⟨S1, .f32⟩
  | 44 => ⟨S7, .f32⟩
  | 45 => ⟨S7, .f32⟩
  | 46 => ⟨S7, .f32⟩
  | 47 => ⟨S1, .f32⟩
  | 48 => ⟨S8, .f32⟩
  | 49 => ⟨S320000x1, .f32⟩
  | 50 => ⟨S1x8, .f32⟩
  | 51 => ⟨S320000x8, .f32⟩
  | 52 => ⟨S320000x8, .f32⟩
  | 53 => ⟨S320000x8, .f32⟩
  | 54 => ⟨S320000x8, .f32⟩
  | 55 => ⟨S_, .f32⟩
  | 56 => ⟨S320000x8, .f32⟩
  | 57 => ⟨S320000x8, .f32⟩
  | 58 => ⟨S320000x8, .f32⟩
  | 59 => ⟨S8x128, .f32⟩
  | 60 => ⟨S320000x128, .f32⟩
  | 61 => ⟨S1x128, .f32⟩
  | 62 => ⟨S320000x128, .f32⟩
  | 63 => ⟨S320000x128, .f32⟩
  | 64 => ⟨S320000x128, .f32⟩
  | 65 => ⟨S320000x128, .f32⟩
  | 66 => ⟨S_, .f32⟩
  | 67 => ⟨S320000x128, .f32⟩
  | 68 => ⟨S320000x128, .f32⟩
  | 69 => ⟨S_, .f32⟩
  | 70 => ⟨S320000x128, .f32⟩
  | 71 => ⟨S320000x128, .f32⟩
  | 72 => ⟨S320000x128, .f32⟩
  | 73 => ⟨S128x128, .f32⟩
  | 74 => ⟨S320000x128, .f32⟩
  | 75 => ⟨S1x128, .f32⟩
  | 76 => ⟨S320000x128, .f32⟩
  | 77 => ⟨S320000x128, .f32⟩
  | 78 => ⟨S320000x128, .f32⟩
  | 79 => ⟨S320000x128, .f32⟩
  | 80 => ⟨S_, .f32⟩
  | 81 => ⟨S320000x128, .f32⟩
  | 82 => ⟨S320000x128, .f32⟩
  | 83 => ⟨S_, .f32⟩
  | 84 => ⟨S320000x128, .f32⟩
  | 85 => ⟨S320000x128, .f32⟩
  | 86 => ⟨S320000x128, .f32⟩
  | 87 => ⟨S3x32, .f32⟩
  | 88 => ⟨S320000x32, .f32⟩
  | 89 => ⟨S1x32, .f32⟩
  | 90 => ⟨S320000x32, .f32⟩
  | 91 => ⟨S320000x32, .f32⟩
  | 92 => ⟨S320000x32, .f32⟩
  | 93 => ⟨S320000x32, .f32⟩
  | 94 => ⟨S_, .f32⟩
  | 95 => ⟨S320000x32, .f32⟩
  | 96 => ⟨S320000x32, .f32⟩
  | 97 => ⟨S_, .f32⟩
  | 98 => ⟨S320000x32, .f32⟩
  | 99 => ⟨S320000x32, .f32⟩
  | 100 => ⟨S320000x32, .f32⟩
  | 101 => ⟨S32x128, .f32⟩
  | 102 => ⟨S320000x128, .f32⟩
  | 103 => ⟨S1x128, .f32⟩
  | 104 => ⟨S320000x128, .f32⟩
  | 105 => ⟨S320000x128, .f32⟩
  | 106 => ⟨S320000x128, .f32⟩
  | 107 => ⟨S320000x128, .f32⟩
  | 108 => ⟨S_, .f32⟩
  | 109 => ⟨S320000x128, .f32⟩
  | 110 => ⟨S320000x128, .f32⟩
  | 111 => ⟨S_, .f32⟩
  | 112 => ⟨S320000x128, .f32⟩
  | 113 => ⟨S320000x128, .f32⟩
  | 114 => ⟨S320000x128, .f32⟩
  | 115 => ⟨S320000x128, .f32⟩
  | 116 => ⟨S10000x128, .f32⟩
  | 117 => ⟨S10000x9, .f32⟩
  | 118 => ⟨S10000x1, .f32⟩
  | 119 => ⟨S10000x1, .f32⟩
  | 120 => ⟨S10000x1, .f32⟩
  | 121 => ⟨S_, .f32⟩
  | 122 => ⟨S10000, .f32⟩
  | 123 => ⟨S10000x1, .f32⟩
  | 124 => ⟨S10000x3, .f32⟩
  | 125 => ⟨S10000x3, .f32⟩
  | 126 => ⟨S10000x3, .f32⟩
  | 127 => ⟨S_, .f32⟩
  | _ => ⟨S10000x128, .f32⟩

abbrev hbmTy0_2 (i : Nat) : BufTy := match i % 128 with
  | 0 => ⟨S10000, .f32⟩
  | 1 => ⟨S10000x1, .f32⟩
  | 2 => ⟨S10000x5, .f32⟩
  | 3 => ⟨S10000x5, .f32⟩
  | 4 => ⟨S10000x5, .f32⟩
  | 5 => ⟨S_, .f32⟩
  | 6 => ⟨S10000, .f32⟩
  | 7 => ⟨S10000x1, .f32⟩
  | 8 => ⟨S10000x3, .f32⟩
  | 9 => ⟨S10000x131, .f32⟩
  | 10 => ⟨S131x131, .f32⟩
  | 11 => ⟨S10000x131, .f32⟩
  | 12 => ⟨S1x131, .f32⟩
  | 13 => ⟨S10000x131, .f32⟩
  | 14 => ⟨S10000x131, .f32⟩
  | 15 => ⟨S10000x128, .f32⟩
  | 16 => ⟨S10000x3, .f32⟩
  | 17 => ⟨S1, .i32⟩
  | 18 => ⟨S2, .i32⟩
  | 19 => ⟨S3, .i32⟩
  | 20 => ⟨S_, .i32⟩
  | 21 => ⟨S1, .i32⟩
  | 22 => ⟨S_, .i32⟩
  | 23 => ⟨S3, .i32⟩
  | 24 => ⟨S_, .i32⟩
  | 25 => ⟨S_, .i32⟩
  | 26 => ⟨S3, .i32⟩
  | 27 => ⟨S_, .i32⟩
  | 28 => ⟨S9, .i32⟩
  | 29 => ⟨S_, .i32⟩
  | 30 => ⟨S3, .i32⟩
  | 31 => ⟨S3, .i1⟩
  | 32 => ⟨S_, .i32⟩
  | 33 => ⟨S3, .i32⟩
  | 34 => ⟨S3, .i32⟩
  | 35 => ⟨S3, .i32⟩
  | 36 => ⟨S3x1, .i32⟩
  | 37 => ⟨S_, .i32⟩
  | 38 => ⟨S3, .i32⟩
  | 39 => ⟨S9, .i32⟩
  | 40 => ⟨S_, .i32⟩
  | 41 => ⟨S_, .i32⟩
  | 42 => ⟨S9, .i32⟩
  | 43 => ⟨S_, .i32⟩
  | 44 => ⟨S9, .i32⟩
  | 45 => ⟨S9, .i32⟩
  | 46 => ⟨S_, .i32⟩
  | 47 => ⟨S9, .i32⟩
  | 48 => ⟨S9, .i1⟩
  | 49 => ⟨S_, .i32⟩
  | 50 => ⟨S9, .i32⟩
  | 51 => ⟨S9, .i32⟩
  | 52 => ⟨S9, .i32⟩
  | 53 => ⟨S9x1, .i32⟩
  | 54 => ⟨S1, .i32⟩
  | 55 => ⟨S_, .i32⟩
  | 56 => ⟨S9x1, .i32⟩
  | 57 => ⟨S9x1, .i1⟩
  | 58 => ⟨S1x1, .i32⟩
  | 59 => ⟨S9x1, .i32⟩
  | 60 => ⟨S9x1, .i1⟩
  | 61 => ⟨S9x1, .i1⟩
  | 62 => ⟨S_, .i1⟩
  | 63 => ⟨S9, .i1⟩
  | 64 => ⟨S10000x9, .f32⟩
  | 65 => ⟨S10000x9, .i1⟩
  | 66 => ⟨S_, .f32⟩
  | 67 => ⟨S10000x9, .f32⟩
  | 68 => ⟨S10000x9, .f32⟩
  | 69 => ⟨S10000x9, .f32⟩
  | 70 => ⟨S10000x128, .f32⟩
  | 71 => ⟨S10000x9, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_v0 : Ref sig .tc := ⟨.hbm, 27, rfl⟩
abbrev main_v1 : Ref sig .tc := ⟨.hbm, 28, rfl⟩
abbrev main_c_1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_2 : Ref sig .tc := ⟨.hbm, 35, rfl⟩
abbrev main_v7 : Ref sig .tc := ⟨.hbm, 36, rfl⟩
abbrev main_v8 : Ref sig .tc := ⟨.hbm, 37, rfl⟩
abbrev main_c_3 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_cst : Ref sig .tc := ⟨.hbm, 69, rfl⟩
abbrev main_call0_v3 : Ref sig .tc := ⟨.hbm, 70, rfl⟩
abbrev main_call0_v4 : Ref sig .tc := ⟨.hbm, 71, rfl⟩
abbrev main_call0_cst_0 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_call0_v15 : Ref sig .tc := ⟨.hbm, 84, rfl⟩
abbrev main_call0_v16 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_8 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_call2_v0 : Ref sig .tc := ⟨.hbm, 116, rfl⟩
abbrev main_call2_v1 : Ref sig .tc := ⟨.hbm, 117, rfl⟩
abbrev main_call2_cst : Ref sig .tc := ⟨.hbm, 118, rfl⟩
abbrev main_call2_v2 : Ref sig .tc := ⟨.hbm, 119, rfl⟩
abbrev main_call2_v3 : Ref sig .tc := ⟨.hbm, 120, rfl⟩
abbrev main_call2_cst_0 : Ref sig .tc := ⟨.hbm, 121, rfl⟩
abbrev main_call2_v4 : Ref sig .tc := ⟨.hbm, 122, rfl⟩
abbrev main_call2_v5 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_call3_v0 : Ref sig .tc := ⟨.hbm, 130, rfl⟩
abbrev main_call3_v1 : Ref sig .tc := ⟨.hbm, 131, rfl⟩
abbrev main_call3_cst : Ref sig .tc := ⟨.hbm, 132, rfl⟩
abbrev main_call3_v2 : Ref sig .tc := ⟨.hbm, 133, rfl⟩
abbrev main_call3_v3 : Ref sig .tc := ⟨.hbm, 134, rfl⟩
abbrev main_call3_cst_0 : Ref sig .tc := ⟨.hbm, 135, rfl⟩
abbrev main_call3_v4 : Ref sig .tc := ⟨.hbm, 136, rfl⟩
abbrev main_call3_v5 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v64 : Ref sig .tc := ⟨.hbm, 152, rfl⟩
abbrev main_v65 : Ref sig .tc := ⟨.hbm, 153, rfl⟩
abbrev main_cst_9 : Ref sig .tc := ⟨.hbm, 154, rfl⟩
abbrev main_cst_10 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_call5_cst : Ref sig .tc := ⟨.hbm, 159, rfl⟩
abbrev main_call5_v3 : Ref sig .tc := ⟨.hbm, 160, rfl⟩
abbrev main_call5_v4 : Ref sig .tc := ⟨.hbm, 161, rfl⟩
abbrev main_call5_cst_0 : Ref sig .tc := ⟨.hbm, 162, rfl⟩
abbrev main_call5_v5 : Ref sig .tc := ⟨.hbm, 163, rfl⟩
abbrev main_call5_v6 : Ref sig .tc := ⟨.hbm, 164, rfl⟩
abbrev main_call5_v7 : Ref sig .tc := ⟨.hbm, 165, rfl⟩
abbrev main_call5_cst_1 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_v12 : Ref sig .tc := ⟨.hbm, 171, rfl⟩
abbrev main_call5_v13 : Ref sig .tc := ⟨.hbm, 172, rfl⟩
abbrev main_call5_v14 : Ref sig .tc := ⟨.hbm, 173, rfl⟩
abbrev main_call5_v15 : Ref sig .tc := ⟨.hbm, 174, rfl⟩
abbrev main_call5_v16 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_cst_11 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_v79 : Ref sig .tc := ⟨.hbm, 190, rfl⟩
abbrev main_v80 : Ref sig .tc := ⟨.hbm, 191, rfl⟩
abbrev main_call6_v0 : Ref sig .tc := ⟨.hbm, 192, rfl⟩
abbrev main_call6_v1 : Ref sig .tc := ⟨.hbm, 193, rfl⟩
abbrev main_call6_cst : Ref sig .tc := ⟨.hbm, 194, rfl⟩
abbrev main_call6_v2 : Ref sig .tc := ⟨.hbm, 195, rfl⟩
abbrev main_call6_v3 : Ref sig .tc := ⟨.hbm, 196, rfl⟩
abbrev main_call6_cst_0 : Ref sig .tc := ⟨.hbm, 197, rfl⟩
abbrev main_call6_v4 : Ref sig .tc := ⟨.hbm, 198, rfl⟩
abbrev main_call6_v5 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_call7_v0 : Ref sig .tc := ⟨.hbm, 206, rfl⟩
abbrev main_call7_v1 : Ref sig .tc := ⟨.hbm, 207, rfl⟩
abbrev main_call7_cst : Ref sig .tc := ⟨.hbm, 208, rfl⟩
abbrev main_call7_v2 : Ref sig .tc := ⟨.hbm, 209, rfl⟩
abbrev main_call7_v3 : Ref sig .tc := ⟨.hbm, 210, rfl⟩
abbrev main_call7_cst_0 : Ref sig .tc := ⟨.hbm, 211, rfl⟩
abbrev main_call7_v4 : Ref sig .tc := ⟨.hbm, 212, rfl⟩
abbrev main_call7_v5 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_call8_v0 : Ref sig .tc := ⟨.hbm, 220, rfl⟩
abbrev main_call8_v1 : Ref sig .tc := ⟨.hbm, 221, rfl⟩
abbrev main_call8_cst : Ref sig .tc := ⟨.hbm, 222, rfl⟩
abbrev main_call8_v2 : Ref sig .tc := ⟨.hbm, 223, rfl⟩
abbrev main_call8_v3 : Ref sig .tc := ⟨.hbm, 224, rfl⟩
abbrev main_call8_cst_0 : Ref sig .tc := ⟨.hbm, 225, rfl⟩
abbrev main_call8_v4 : Ref sig .tc := ⟨.hbm, 226, rfl⟩
abbrev main_call8_v5 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_v96 : Ref sig .tc := ⟨.hbm, 231, rfl⟩
abbrev main_v97 : Ref sig .tc := ⟨.hbm, 232, rfl⟩
abbrev main_v98 : Ref sig .tc := ⟨.hbm, 233, rfl⟩
abbrev main_call9_v0 : Ref sig .tc := ⟨.hbm, 234, rfl⟩
abbrev main_call9_v1 : Ref sig .tc := ⟨.hbm, 235, rfl⟩
abbrev main_call9_cst : Ref sig .tc := ⟨.hbm, 236, rfl⟩
abbrev main_call9_v2 : Ref sig .tc := ⟨.hbm, 237, rfl⟩
abbrev main_call9_v3 : Ref sig .tc := ⟨.hbm, 238, rfl⟩
abbrev main_call9_cst_0 : Ref sig .tc := ⟨.hbm, 239, rfl⟩
abbrev main_call9_v4 : Ref sig .tc := ⟨.hbm, 240, rfl⟩
abbrev main_call9_v5 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_cst_12 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_cst_13 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_cst_14 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_v121 : Ref sig .tc := ⟨.hbm, 267, rfl⟩
abbrev main_v122 : Ref sig .tc := ⟨.hbm, 268, rfl⟩
abbrev main_v123 : Ref sig .tc := ⟨.hbm, 269, rfl⟩
abbrev main_v124 : Ref sig .tc := ⟨.hbm, 270, rfl⟩
abbrev main_v125 : Ref sig .tc := ⟨.hbm, 271, rfl⟩
abbrev main_v126 : Ref sig .tc := ⟨.hbm, 272, rfl⟩
abbrev main_call10_v0 : Ref sig .tc := ⟨.hbm, 273, rfl⟩
abbrev main_call10_v1 : Ref sig .tc := ⟨.hbm, 274, rfl⟩
abbrev main_v127 : Ref sig .tc := ⟨.hbm, 275, rfl⟩
abbrev main_c_15 : Ref sig .tc := ⟨.hbm, 276, rfl⟩
abbrev main_v128 : Ref sig .tc := ⟨.hbm, 277, rfl⟩
abbrev main_c_16 : Ref sig .tc := ⟨.hbm, 278, rfl⟩
abbrev main_v129 : Ref sig .tc := ⟨.hbm, 279, rfl⟩
abbrev main_call11_call0_c : Ref sig .tc := ⟨.hbm, 280, rfl⟩
abbrev main_call11_call0_v0 : Ref sig .tc := ⟨.hbm, 281, rfl⟩
abbrev main_v130 : Ref sig .tc := ⟨.hbm, 282, rfl⟩
abbrev main_c_17 : Ref sig .tc := ⟨.hbm, 283, rfl⟩
abbrev main_v131 : Ref sig .tc := ⟨.hbm, 284, rfl⟩
abbrev main_c_18 : Ref sig .tc := ⟨.hbm, 285, rfl⟩
abbrev main_v132 : Ref sig .tc := ⟨.hbm, 286, rfl⟩
abbrev main_v133 : Ref sig .tc := ⟨.hbm, 287, rfl⟩
abbrev main_c_19 : Ref sig .tc := ⟨.hbm, 288, rfl⟩
abbrev main_v134 : Ref sig .tc := ⟨.hbm, 289, rfl⟩
abbrev main_v135 : Ref sig .tc := ⟨.hbm, 290, rfl⟩
abbrev main_v136 : Ref sig .tc := ⟨.hbm, 291, rfl⟩
abbrev main_v137 : Ref sig .tc := ⟨.hbm, 292, rfl⟩
abbrev main_c_20 : Ref sig .tc := ⟨.hbm, 293, rfl⟩
abbrev main_v138 : Ref sig .tc := ⟨.hbm, 294, rfl⟩
abbrev main_v139 : Ref sig .tc := ⟨.hbm, 295, rfl⟩
abbrev main_call12_call0_c : Ref sig .tc := ⟨.hbm, 296, rfl⟩
abbrev main_call12_call0_v0 : Ref sig .tc := ⟨.hbm, 297, rfl⟩
abbrev main_v140 : Ref sig .tc := ⟨.hbm, 298, rfl⟩
abbrev main_c_21 : Ref sig .tc := ⟨.hbm, 299, rfl⟩
abbrev main_v141 : Ref sig .tc := ⟨.hbm, 300, rfl⟩
abbrev main_v142 : Ref sig .tc := ⟨.hbm, 301, rfl⟩
abbrev main_call13_c : Ref sig .tc := ⟨.hbm, 302, rfl⟩
abbrev main_call13_v0 : Ref sig .tc := ⟨.hbm, 303, rfl⟩
abbrev main_call13_v1 : Ref sig .tc := ⟨.hbm, 304, rfl⟩
abbrev main_call13_c_0 : Ref sig .tc := ⟨.hbm, 305, rfl⟩
abbrev main_call13_v2 : Ref sig .tc := ⟨.hbm, 306, rfl⟩
abbrev main_call13_v3 : Ref sig .tc := ⟨.hbm, 307, rfl⟩
abbrev main_call13_v4 : Ref sig .tc := ⟨.hbm, 308, rfl⟩
abbrev main_call13_v5 : Ref sig .tc := ⟨.hbm, 309, rfl⟩
abbrev main_call13_c_1 : Ref sig .tc := ⟨.hbm, 310, rfl⟩
abbrev main_call13_c_2 : Ref sig .tc := ⟨.hbm, 311, rfl⟩
abbrev main_call13_v6 : Ref sig .tc := ⟨.hbm, 312, rfl⟩
abbrev main_call13_v7 : Ref sig .tc := ⟨.hbm, 313, rfl⟩
abbrev main_call13_v8 : Ref sig .tc := ⟨.hbm, 314, rfl⟩
abbrev main_call13_v9 : Ref sig .tc := ⟨.hbm, 315, rfl⟩
abbrev main_call13_v10 : Ref sig .tc := ⟨.hbm, 316, rfl⟩
abbrev main_call13_v11 : Ref sig .tc := ⟨.hbm, 317, rfl⟩
abbrev main_call13_c_3 : Ref sig .tc := ⟨.hbm, 318, rfl⟩
abbrev main_call13_v12 : Ref sig .tc := ⟨.hbm, 319, rfl⟩
abbrev main_call13_v13 : Ref sig .tc := ⟨.hbm, 320, rfl⟩
abbrev main_call13_v14 : Ref sig .tc := ⟨.hbm, 321, rfl⟩
abbrev main_call13_cst : Ref sig .tc := ⟨.hbm, 322, rfl⟩
abbrev main_call13_v15 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩

abbrev nD : Nat := 1
abbrev τ : Topo := Topo.v7x

variable {F : FTy → Type} [FloatOps F]
-- ==== Proof.Row.lean ====
/-
  The arithmetic of one row (one node) over the extended reals: how many components each degree has, the invariant that
  a degree contributes, the linear layer applied to one row, and the two equations between the kernel's arrangement of
  the factors 2 and 4 and the reference's sums of an array with itself.
-/
module

public import Idealize.ShloMosaic.PureOps.Ideal
public import Idealize.ShloMosaic.PureOps.Ideal.Laws
public import Idealize.ShloMosaic.Lib.IdealHost

@[expose] public section

noncomputable section

namespace Cert.Row

open Idealize.ShloMosaic

/-! ## The constants -/

/-- The pattern `0x40000000` is the number two. -/
theorem bits_two : Ideal.ofBits .f32 0x40000000#32 = 2 := by
  rw [show (2 : EReal) = ((2 : ℝ) : EReal) from rfl]
  simp [Ideal.ofBits, Ideal.ieee, -EReal.coe_mul]
  norm_num

/-- The pattern `0x40800000` is the number four. -/
theorem bits_four : Ideal.ofBits .f32 0x40800000#32 = 4 := by
  rw [show (4 : EReal) = ((4 : ℝ) : EReal) from rfl]
  simp [Ideal.ofBits, Ideal.ieee, -EReal.coe_mul]
  norm_num

/-! ## Products with a finite factor -/

/-- An extended real added to itself is twice it. -/
theorem self_add (a : EReal) : a + a = 2 * a := by
  induction a with
  | bot => rw [EReal.bot_add, EReal.mul_bot_of_pos (by norm_num)]
  | coe r => rw [← EReal.coe_add, show (2 : EReal) = ((2 : ℝ) : EReal) from rfl, ← EReal.coe_mul, two_mul]
  | top => rw [EReal.top_add_top, EReal.mul_top_of_pos (by norm_num)]

/-- Two distributes over a sum of two. -/
theorem two_mul_add (a b : EReal) : 2 * (a + b) = 2 * a + 2 * b :=
  EReal.left_distrib_of_nonneg_of_ne_top (by norm_num) (by decide) a b

/-- Two distributes over a finite sum. -/
theorem two_mul_sum {ι : Type} (s : Finset ι) (f : ι → EReal) : 2 * ∑ i ∈ s, f i = ∑ i ∈ s, 2 * f i := by
  classical
  induction s using Finset.induction_on with
  | empty => simp
  | insert a s ha ih => rw [Finset.sum_insert ha, Finset.sum_insert ha, two_mul_add, ih]

theorem four_eq : (4 : EReal) = 2 * 2 := by
  rw [show (2 : EReal) = ((2 : ℝ) : EReal) from rfl, ← EReal.coe_mul, show (4 : EReal) = ((4 : ℝ) : EReal) from rfl]
  norm_num

/-- For a finite `e`, the factor `2 t + 2` of `e` may be taken apart. -/
theorem real_mul_two_add (e : ℝ) (t : EReal) : (e : EReal) * (2 * t + 2) = 2 * (e : EReal) + t * (2 * (e : EReal)) := by
  have h2 : (2 : EReal) = ((2 : ℝ) : EReal) := rfl
  induction t with
  | coe r =>
    rw [h2]
    norm_cast
    ring
  | top =>
    rw [EReal.mul_top_of_pos (by norm_num), h2, EReal.top_add_coe, ← EReal.coe_mul]
    rcases lt_trichotomy e 0 with h | h | h
    · rw [EReal.coe_mul_top_of_neg h, EReal.top_mul_coe_of_neg (by linarith), EReal.add_bot]
    · subst h; simp
    · rw [EReal.coe_mul_top_of_pos h, EReal.top_mul_coe_of_pos (by linarith), EReal.coe_add_top]
  | bot =>
    rw [EReal.mul_bot_of_pos (by norm_num), h2, EReal.bot_add, ← EReal.coe_mul]
    rcases lt_trichotomy e 0 with h | h | h
    · rw [EReal.coe_mul_bot_of_neg h, EReal.bot_mul_coe_of_neg (by linarith), EReal.coe_add_top]
    · subst h; simp
    · rw [EReal.coe_mul_bot_of_pos h, EReal.bot_mul_coe_of_pos (by linarith), EReal.add_bot]

/-! ## One row -/

/-- The degree of component `j`: one component of degree 0, three of degree 1, five of degree 2. -/
def degree : Fin 9 → Fin 3 := ![0, 1, 1, 1, 2, 2, 2, 2, 2]

/-- The row of the linear layer that belongs to degree `l`. -/
def degreeRow (l : Fin 3) : Fin 131 := ⟨128 + l.val, by omega⟩

/-- The row of the linear layer that belongs to the invariant feature `q`. -/
def featureRow (q : Fin 128) : Fin 131 := ⟨q.val, by omega⟩

/-- The invariant of degree `l`: the sum of the squares of the doubled components of that degree. -/
def energy (v : Fin 9 → EReal) (l : Fin 3) : EReal :=
  ∑ j : Fin 9, if degree j = l then (v j + v j) * (v j + v j) else 0

/-- The linear layer on one row: the doubled features and the three invariants against the weights `w`, and a bias. -/
def layer (x : Fin 128 → EReal) (v : Fin 9 → EReal) (w : Fin 131 → EReal) (b : EReal) : EReal :=
  ((∑ k : Fin 128, (x k + x k) * w (featureRow k)) + ∑ l : Fin 3, energy v l * w (degreeRow l)) + b

/-- The degree-0 invariant: one square. -/
theorem energy_zero (v : Fin 9 → EReal) : energy v 0 = (v 0 + v 0) * (v 0 + v 0) := by
  simp [energy, Fin.sum_univ_succ, degree]

/-- The degree-1 invariant: the squares of components 1, 2, 3. -/
theorem energy_one (v : Fin 9 → EReal) :
    energy v 1 = ∑ k : Fin 3, (v ⟨1 + k.val, by omega⟩ + v ⟨1 + k.val, by omega⟩) * (v ⟨1 + k.val, by omega⟩ + v ⟨1 + k.val, by omega⟩) := by
  simp [energy, Fin.sum_univ_succ, degree]

/-- The degree-2 invariant: the squares of components 4 to 8. -/
theorem energy_two (v : Fin 9 → EReal) :
    energy v 2 = ∑ k : Fin 5, (v ⟨4 + k.val, by omega⟩ + v ⟨4 + k.val, by omega⟩) * (v ⟨4 + k.val, by omega⟩ + v ⟨4 + k.val, by omega⟩) := by
  simp [energy, Fin.sum_univ_succ, degree]

/-- The reference's joined row: the doubled features, then the three degrees' sums of squares, laid end to end. -/
def joined (x : Fin 128 → EReal) (v : Fin 9 → EReal) (p : Fin 131) : EReal :=
  if h : p.val < 128 then x ⟨p.val, h⟩ + x ⟨p.val, h⟩
  else if p.val - 128 < 1 then ∑ _k : Fin 1, (v 0 + v 0) * (v 0 + v 0)
  else if p.val - 128 - 1 < 1 then
    ∑ k : Fin 3, (v ⟨1 + k.val, by omega⟩ + v ⟨1 + k.val, by omega⟩) * (v ⟨1 + k.val, by omega⟩ + v ⟨1 + k.val, by omega⟩)
  else ∑ k : Fin 5, (v ⟨4 + k.val, by omega⟩ + v ⟨4 + k.val, by omega⟩) * (v ⟨4 + k.val, by omega⟩ + v ⟨4 + k.val, by omega⟩)

theorem joined_feature (x : Fin 128 → EReal) (v : Fin 9 → EReal) (k : Fin 128) : joined x v (featureRow k) = x k + x k := by
  unfold joined
  rw [dif_pos (show (featureRow k).val < 128 from k.isLt)]
  rfl

theorem joined_degree (x : Fin 128 → EReal) (v : Fin 9 → EReal) (l : Fin 3) : joined x v (degreeRow l) = energy v l := by
  unfold joined
  fin_cases l
  · exact (dif_neg (by decide)).trans ((if_pos (by decide)).trans (by rw [Fin.sum_univ_one]; exact (energy_zero v).symm))
  · exact (dif_neg (by decide)).trans ((if_neg (by decide)).trans ((if_pos (by decide)).trans (energy_one v).symm))
  · exact (dif_neg (by decide)).trans ((if_neg (by decide)).trans ((if_neg (by decide)).trans (energy_two v).symm))

/-- The joined row against a row of weights, and the bias: the layer. -/
theorem joined_layer (x : Fin 128 → EReal) (v : Fin 9 → EReal) (w : Fin 131 → EReal) (b : EReal) :
    (∑ p : Fin 131, joined x v p * w p) + b = layer x v w b := by
  have h := Fin.sum_univ_add (a := 128) (b := 3) fun p => joined x v p * w p
  have h1 : ∑ k : Fin 128, joined x v (Fin.castAdd 3 k) * w (Fin.castAdd 3 k) = ∑ k : Fin 128, (x k + x k) * w (featureRow k) :=
    Finset.sum_congr rfl fun k _ => congrArg (· * w (featureRow k)) (joined_feature x v k)
  have h2 : ∑ l : Fin 3, joined x v (Fin.natAdd 128 l) * w (Fin.natAdd 128 l) = ∑ l : Fin 3, energy v l * w (degreeRow l) :=
    Finset.sum_congr rfl fun l _ => congrArg (· * w (degreeRow l)) (joined_degree x v l)
  unfold layer
  rw [← h1, ← h2]
  exact congrArg (· + b) h

/-- The kernel's weights of the squares: four at the component's own degree. -/
def four (l : Fin 3) (j : Fin 9) : EReal := 4 * if l = degree j then 1 else 0

/-- The kernel's invariant of degree `l`: the squares of the components, weighted, is the reference's. -/
theorem energy_eq (v : Fin 9 → EReal) (l : Fin 3) : ∑ j : Fin 9, four l j * (v j * v j) = energy v l := by
  refine Finset.sum_congr rfl fun j _ => ?_
  unfold four
  by_cases h : degree j = l
  · rw [if_pos h, if_pos h.symm, mul_one, self_add, four_eq]
    ac_rfl
  · rw [if_neg h, if_neg fun h' => h h'.symm, mul_zero, zero_mul]

/-- The kernel's first columns: features against doubled weights. -/
theorem feature_eq (x : Fin 128 → EReal) (v : Fin 9 → EReal) (w : Fin 131 → EReal) (b : EReal) :
    ((∑ k : Fin 128, x k * (2 * w (featureRow k))) + ∑ l : Fin 3, energy v l * w (degreeRow l)) + b = layer x v w b := by
  unfold layer
  congr 2
  refine Finset.sum_congr rfl fun k _ => ?_
  rw [self_add]
  ac_rfl

/-- The kernel's last columns: everything doubled once more, and two added to the bias. -/
theorem degree_eq (x : Fin 128 → EReal) (v : Fin 9 → EReal) (w : Fin 131 → EReal) (b : EReal) :
    ((∑ k : Fin 128, x k * (4 * w (featureRow k))) + ∑ l : Fin 3, energy v l * (2 * w (degreeRow l))) + (2 * b + 2)
      = 2 * layer x v w b + 2 := by
  have hx : ∑ k : Fin 128, x k * (4 * w (featureRow k)) = 2 * ∑ k : Fin 128, (x k + x k) * w (featureRow k) := by
    rw [two_mul_sum]
    refine Finset.sum_congr rfl fun k _ => ?_
    rw [self_add, four_eq]
    ac_rfl
  have hv : ∑ l : Fin 3, energy v l * (2 * w (degreeRow l)) = 2 * ∑ l : Fin 3, energy v l * w (degreeRow l) := by
    rw [two_mul_sum]
    refine Finset.sum_congr rfl fun l _ => ?_
    ac_rfl
  unfold layer
  rw [hx, hv, ← add_assoc, two_mul_add, two_mul_add]

/-- A finite component times the kernel's factor is the component doubled plus its product with the layer's value. -/
theorem component_eq (e t : EReal) (he : e ≠ ⊤) (he' : e ≠ ⊥) : e * (2 * t + 2) = (e + e) + t * (e + e) := by
  lift e to ℝ using ⟨he, he'⟩
  rw [self_add, real_mul_two_add]

end Cert.Row

end
-- ==== Proof.HostArrays.lean ====
/-
  The arrays that the kernel's host part prepares for the launch, read at an index: the two blocks of weights, the bias
  row, the weights of the squares, and the equivariant features with their axes exchanged.
-/
module

public import proofs.«01_k».proof.Proof.Row
public import proofs.«01_k».proof.Proof.Gen.KernelIdeal.Frame
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Row

variable (m : (ℓ : Loc nD τ sig) → Buf (Elt Ideal) ℓ) (c : Dev nD)

/-- The one-hot table's words: one where the row is the column's degree, zero elsewhere. -/
theorem hot_words : ∀ (l : Fin 3) (j : Fin 9),
    lit0 (S3x9.rowMajor (ix2 l j)) = if l = degree j then 0x3F800000#32 else 0x00000000#32 := by
  decide +kernel

/-- The one-hot table's numbers. -/
theorem hot (l : Fin 3) (j : Fin 9) :
    Ideal.ofBits .f32 (lit0 (S3x9.rowMajor (ix2 l j))) = if l = degree j then 1 else 0 := by
  rw [hot_words]
  split
  · exact Ideal.ofBits_one_f32
  · exact Ideal.ofBits_zero_f32

/-- A sum over the degrees against a column of the one-hot table picks the column's degree. -/
theorem hot_sum (f : Fin 3 → EReal) (j : Fin 9) :
    ∑ l : Fin 3, f l * Ideal.ofBits .f32 (lit0 (S3x9.rowMajor (ix2 l j))) = f (degree j) := by
  simp [hot]

/-- The invariant features as launched, as numbers. -/
def feats (n : Fin 10000) (k : Fin 128) : EReal := (m ((c : Thread nD τ).loc main_arg0) : Vec Ideal S10000x128 .f32) (ix2 n k)
/-- The equivariant features as launched. -/
def comps (n : Fin 10000) (j : Fin 9) : EReal := (m ((c : Thread nD τ).loc main_arg1) : Vec Ideal S10000x9 .f32) (ix2 n j)
/-- The linear layer's weights as launched. -/
def weights (q k : Fin 131) : EReal := (m ((c : Thread nD τ).loc main_arg23) : Vec Ideal S131x131 .f32) (ix2 q k)
/-- The linear layer's bias as launched. -/
def biases (q : Fin 131) : EReal := (m ((c : Thread nD τ).loc main_arg24) : Vec Ideal S131 .f32) (ix1 q)

/-- The weights against the invariant features, first 128 columns: doubled. -/
theorem w1_feature (k : Fin 128) (q : Fin 128) :
    (V m c main_v13 : Vec Ideal S128x137 .f32) (ix2 k ⟨q.val, by omega⟩) = (2 * weights m c (featureRow q) (featureRow k) : EReal) := by
  show (V0 m c (Proc.devRef .tc main_v13) : Vec Ideal S128x137 .f32) _ = _
  unfold V0 hostOps0
  after_reads_at
  rw [bits_two]
  rfl

/-- The weights against the invariant features, last nine columns: four times the row of the column's degree. -/
theorem w1_degree (k : Fin 128) (j : Fin 9) :
    (V m c main_v13 : Vec Ideal S128x137 .f32) (ix2 k ⟨128 + j.val, by omega⟩)
      = (4 * weights m c (degreeRow (degree j)) (featureRow k) : EReal) := by
  show (V0 m c (Proc.devRef .tc main_v13) : Vec Ideal S128x137 .f32) _ = _
  unfold V0 hostOps0
  after_reads_at
  rw [bits_four]
  exact congrArg (fun z : EReal => 4 * z) (hot_sum (fun l => weights m c (degreeRow l) (featureRow k)) j)

/-- The weights against the degrees' invariants, first 128 columns. -/
theorem w2_feature (l : Fin 3) (q : Fin 128) :
    (V m c main_v24 : Vec Ideal S3x137 .f32) (ix2 l ⟨q.val, by omega⟩) = weights m c (featureRow q) (degreeRow l) := by
  show (V0 m c (Proc.devRef .tc main_v24) : Vec Ideal S3x137 .f32) _ = _
  unfold V0 hostOps0
  after_reads_at
  rfl

/-- The weights against the degrees' invariants, last nine columns: twice the row of the column's degree. -/
theorem w2_degree (l : Fin 3) (j : Fin 9) :
    (V m c main_v24 : Vec Ideal S3x137 .f32) (ix2 l ⟨128 + j.val, by omega⟩)
      = (2 * weights m c (degreeRow (degree j)) (degreeRow l) : EReal) := by
  show (V0 m c (Proc.devRef .tc main_v24) : Vec Ideal S3x137 .f32) _ = _
  unfold V0 hostOps0
  after_reads_at
  rw [bits_two]
  exact congrArg (fun z : EReal => 2 * z) (hot_sum (fun p => weights m c (degreeRow p) (degreeRow l)) j)

/-- The bias row, first 128 columns. -/
theorem bias_feature (q : Fin 128) :
    (V m c main_v36 : Vec Ideal S1x137 .f32) (ix2 0 ⟨q.val, by omega⟩) = biases m c (featureRow q) := by
  show (V0 m c (Proc.devRef .tc main_v36) : Vec Ideal S1x137 .f32) _ = _
  unfold V0 hostOps0
  after_reads_at
  after_reads_at
  rfl

/-- The bias row, last nine columns: twice the bias of the column's degree, and two. -/
theorem bias_degree (j : Fin 9) :
    (V m c main_v36 : Vec Ideal S1x137 .f32) (ix2 0 ⟨128 + j.val, by omega⟩)
      = (2 * biases m c (degreeRow (degree j)) + 2 : EReal) := by
  show (V0 m c (Proc.devRef .tc main_v36) : Vec Ideal S1x137 .f32) _ = _
  unfold V0 hostOps0
  after_reads_at
  after_reads_at
  rw [bits_two]
  exact congrArg (fun z : EReal => 2 * z + 2) (hot_sum (fun p => biases m c (degreeRow p)) j)

/-- The weights of the squares. -/
theorem r_at (l : Fin 3) (j : Fin 9) :
    (V m c main_v38 : Vec Ideal S3x9 .f32) (ix2 l j) = four l j := by
  show (V0 m c (Proc.devRef .tc main_v38) : Vec Ideal S3x9 .f32) _ = _
  unfold V0 hostOps0
  after_reads_at
  rw [hot, bits_four]
  rfl

/-- The equivariant features, axes exchanged. -/
theorem evt_at (j : Fin 9) (n : Fin 10000) :
    (V m c main_v40 : Vec Ideal S1x9x10000 .f32) (ix3 0 j n) = comps m c n j := by
  show (V0 m c (Proc.devRef .tc main_v40) : Vec Ideal S1x9x10000 .f32) _ = _
  unfold V0 hostOps0
  after_reads_at
  rfl

end Cert.KernelIdeal.Hand

end
-- ==== Proof.KernelValue.lean ====
/-
  What the kernel's two results hold after the run, at an index: the one grid point writes both arrays whole, and the
  lines after the launch exchange the axes of the second one back.
-/
module

public import proofs.«01_k».proof.Proof.HostArrays

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Row

/-! ## The body's values at an index -/

section Body

variable (x : Vec Ideal S10000x128 .f32) (e : Vec Ideal S1x9x10000 .f32) (r : Vec Ideal S3x9 .f32)
  (w1 : Vec Ideal S128x137 .f32) (w2 : Vec Ideal S3x137 .f32) (b : Vec Ideal S1x137 .f32)

/-- The fused linear layer at an index: the product with the features, the product with the weighted squares, the bias. -/
theorem layer_at (n : Fin 10000) (q : Fin 137) :
    k0_pay2 x e r w1 w2 b (ix2 n q)
      = (((∑ k : Fin 128, x (ix2 n k) * w1 (ix2 k q))
          + ∑ l : Fin 3, (∑ j : Fin 9, r (ix2 l j) * (e (ix3 0 j n) * e (ix3 0 j n))) * w2 (ix2 l q)) + b (ix2 0 q) : EReal) := by
  pointwise [k0_pay2, k0_pay1]

/-- The first store's payload at an index. -/
theorem feature_at (n : Fin 10000) (q : Fin 128) :
    k0_pay3 x e r w1 w2 b (ix2 n q) = (x (ix2 n q) * 2 + k0_pay2 x e r w1 w2 b (ix2 n ⟨q.val, by omega⟩) : EReal) := by
  pointwise [k0_pay3]
  rw [bits_two]

/-- The second store's payload at an index. -/
theorem component_at (n : Fin 10000) (j : Fin 9) :
    k0_pay4 x e r w1 w2 b (ix3 0 j n) = (e (ix3 0 j n) * k0_pay2 x e r w1 w2 b (ix2 n ⟨128 + j.val, by omega⟩) : EReal) := by
  pointwise [k0_pay4, k0_pay1]

end Body

variable (m : (ℓ : Loc nD τ sig) → Buf (Elt Ideal) ℓ) (ρ : Dev nD → PrngReg) (c : Dev nD)

/-! ## The blocks: every window is its whole array -/

/-- Every window's block index is zero at the one point. -/
theorem index_zero : win0_0.index t0_0 = ![0, 0] ∧ win0_1.index t0_0 = ![0, 0, 0] ∧ win0_2.index t0_0 = ![0, 0]
    ∧ win0_3.index t0_0 = ![0, 0] ∧ win0_4.index t0_0 = ![0, 0] ∧ win0_5.index t0_0 = ![0, 0] := by
  decide +kernel

/-- The arrays at the launch, each typed by its shape: the invariant features, -/
def inA : Vec Ideal S10000x128 .f32 := V m c main_arg0
/-- the equivariant features with axes exchanged, -/
def evA : Vec Ideal S1x9x10000 .f32 := V m c main_v40
/-- the weights against the invariant features, -/
def w1A : Vec Ideal S128x137 .f32 := V m c main_v13
/-- the weights against the degrees' invariants, -/
def w2A : Vec Ideal S3x137 .f32 := V m c main_v24
/-- the weights of the squares, -/
def sqA : Vec Ideal S3x9 .f32 := V m c main_v38
/-- and the bias row. -/
def biasA : Vec Ideal S1x137 .f32 := V m c main_v36

theorem block0 : (iblk m c 0 t0_0 : Vec Ideal S10000x128 .f32) = inA m c := by
  funext y; unfold inA; blk_ext [iblk, index_zero.1]
theorem block1 : (iblk m c 1 t0_0 : Vec Ideal S1x9x10000 .f32) = evA m c := by
  funext y; unfold evA; blk_ext [iblk, index_zero.2.1]
theorem block2 : (iblk m c 2 t0_0 : Vec Ideal S128x137 .f32) = w1A m c := by
  funext y; unfold w1A; blk_ext [iblk, index_zero.2.2.1]
theorem block3 : (iblk m c 3 t0_0 : Vec Ideal S3x137 .f32) = w2A m c := by
  funext y; unfold w2A; blk_ext [iblk, index_zero.2.2.2.1]
theorem block4 : (iblk m c 4 t0_0 : Vec Ideal S3x9 .f32) = sqA m c := by
  funext y; unfold sqA; blk_ext [iblk, index_zero.2.2.2.2.1]
theorem block5 : (iblk m c 5 t0_0 : Vec Ideal S1x137 .f32) = biasA m c := by
  funext y; unfold biasA; blk_ext [iblk, index_zero.2.2.2.2.2]

theorem inA_at (n : Fin 10000) (k : Fin 128) : inA m c (ix2 n k) = feats m c n k := by
  unfold inA; rw [V_main_arg0]; rfl
theorem evA_at (j : Fin 9) (n : Fin 10000) : evA m c (ix3 0 j n) = comps m c n j := evt_at m c j n
theorem sqA_at (l : Fin 3) (j : Fin 9) : sqA m c (ix2 l j) = four l j := r_at m c l j

/-- The fused layer of the arrays at the launch. -/
def fused : FVec Ideal S10000x137 .f32 := k0_pay2 (inA m c) (evA m c) (sqA m c) (w1A m c) (w2A m c) (biasA m c)

/-- The layer of the launched arrays at node `n` and output `q`. -/
def layerAt (n : Fin 10000) (q : Fin 131) : EReal :=
  layer (feats m c n) (comps m c n) (fun k => weights m c q k) (biases m c q)

/-- The weights of the squares against the squares: the degrees' invariants. -/
theorem energy_at (n : Fin 10000) (l : Fin 3) :
    (∑ j : Fin 9, sqA m c (ix2 l j) * (evA m c (ix3 0 j n) * evA m c (ix3 0 j n)) : EReal) = energy (comps m c n) l := by
  rw [← energy_eq]
  refine Finset.sum_congr rfl fun j _ => ?_
  rw [sqA_at, evA_at]

/-- The fused layer at column `q`, over a weight column and a bias that are known there. -/
theorem fused_at (n : Fin 10000) (q : Fin 137) (f : Fin 128 → EReal) (g : Fin 3 → EReal) (b : EReal)
    (hf : ∀ k, w1A m c (ix2 k q) = f k) (hg : ∀ l, w2A m c (ix2 l q) = g l) (hb : biasA m c (ix2 0 q) = b) :
    fused m c (ix2 n q) = (((∑ k : Fin 128, feats m c n k * f k) + ∑ l : Fin 3, energy (comps m c n) l * g l) + b : EReal) := by
  unfold fused
  rw [layer_at, hb]
  have h1 : (∑ k : Fin 128, inA m c (ix2 n k) * w1A m c (ix2 k q) : EReal) = ∑ k : Fin 128, feats m c n k * f k :=
    Finset.sum_congr rfl fun k _ => by rw [inA_at, hf]
  have h2 : (∑ l : Fin 3, (∑ j : Fin 9, sqA m c (ix2 l j) * (evA m c (ix3 0 j n) * evA m c (ix3 0 j n))) * w2A m c (ix2 l q) : EReal)
      = ∑ l : Fin 3, energy (comps m c n) l * g l :=
    Finset.sum_congr rfl fun l _ => by rw [energy_at, hg]
  rw [h1, h2]

/-- The fused layer's first columns are the layer. -/
theorem fused_feature (n : Fin 10000) (q : Fin 128) : fused m c (ix2 n ⟨q.val, by omega⟩) = layerAt m c n (featureRow q) :=
  (fused_at m c n _ _ _ _ (fun k => w1_feature m c k q) (fun l => w2_feature m c l q) (bias_feature m c q)).trans
    (feature_eq (feats m c n) (comps m c n) (fun k => weights m c (featureRow q) k) (biases m c (featureRow q)))

/-- The fused layer's last columns are twice the layer, and two. -/
theorem fused_degree (n : Fin 10000) (j : Fin 9) :
    fused m c (ix2 n ⟨128 + j.val, by omega⟩) = (2 * layerAt m c n (degreeRow (degree j)) + 2 : EReal) :=
  (fused_at m c n _ _ _ _ (fun k => w1_degree m c k j) (fun l => w2_degree m c l j) (bias_degree m c j)).trans
    (degree_eq (feats m c n) (comps m c n) (fun k => weights m c (degreeRow (degree j)) k) (biases m c (degreeRow (degree j))))

/-! ## The results -/

/-- The first result. -/
def result1 : Vec Ideal S10000x128 .f32 := fun i => (feats m c (i 0) (i 1) * 2 + layerAt m c (i 0) (featureRow (i 1)) : EReal)
/-- The second result. -/
def result2 : Vec Ideal S10000x9 .f32 := fun i => (comps m c (i 0) (i 1) * (2 * layerAt m c (i 0) (degreeRow (degree (i 1))) + 2) : EReal)
/-- The second result as the launch leaves it, axes exchanged. -/
def result2T : Vec Ideal S1x9x10000 .f32 := fun i => (comps m c (i 2) (i 1) * (2 * layerAt m c (i 2) (degreeRow (degree (i 1))) + 2) : EReal)

/-- The first array after the run. -/
theorem array6 : (dats m 0 c).arrAt 6 cfg0.N = result1 m c := by
  refine (dats m 0 c).arrAt_eq_of_after_last 6 t0_0 (by decide +kernel) _ fun j => ?_
  blk_simp
  rw [after0_6]
  frame_out
  rw [block0, block1, block2, block3, block4, block5]
  obtain ⟨n, q, rfl⟩ : ∃ (n : Fin 10000) (q : Fin 128), j = ix2 n q := ⟨j 0, j 1, eq_ix2 j⟩
  refine (feature_at _ _ _ _ _ _ n q).trans ?_
  rw [inA_at]
  exact congrArg (fun z : EReal => feats m c n q * 2 + z) (fused_feature m c n q)

/-- The second array after the run. -/
theorem array7 : (dats m 0 c).arrAt 7 cfg0.N = result2T m c := by
  refine (dats m 0 c).arrAt_eq_of_after_last 7 t0_0 (by decide +kernel) _ fun j => ?_
  blk_simp
  rw [after0_7]
  frame_out
  rw [block0, block1, block2, block3, block4, block5]
  obtain ⟨a, q, n, rfl⟩ : ∃ (a : Fin 1) (q : Fin 9) (n : Fin 10000), j = ix3 a q n := ⟨j 0, j 1, j 2, eq_ix3 j⟩
  obtain rfl : a = 0 := Subsingleton.elim _ _
  refine (component_at _ _ _ _ _ _ n q).trans ?_
  rw [evA_at]
  exact congrArg (fun z : EReal => comps m c n q * z) (fused_degree m c n q)

/-- The second result's buffer after the lines that follow the launch. -/
theorem tail_value : Pipeline.afterTail₀ cfgs (dats m) 0 (V0 m) [hostOps1] c main_v43 = result2 m c := by
  have h7 : Pipeline.withArrays (cfgs 0).spec c (V0 m c) (fun w => (dats m 0 c).arrAt w (cfgs 0).N) (Proc.devRef .tc main_v41_1)
      = result2T m c :=
    (Pipeline.withArrays_arr (cfgs 0).spec (by decide) c (V0 m c) (fun w => (dats m 0 c).arrAt w (cfgs 0).N) 7).trans (array7 m c)
  unfold Pipeline.afterTail₀ hostOps1
  generalize Pipeline.withArrays (cfgs 0).spec c (V0 m c) (fun w => (dats m 0 c).arrAt w (cfgs 0).N) = X at h7
  funext i
  obtain ⟨n, j, rfl⟩ : ∃ (n : Fin 10000) (j : Fin 9), i = ix2 n j := ⟨i 0, i 1, eq_ix2 i⟩
  after_reads_at
  rw [h7]
  rfl

/-- The run, read: both results and the arguments. -/
theorem run : θ_run defs (onTc (τ := τ) (main (F := Ideal))) ⟨m, fun _ => 0, ρ⟩ (fun r => ∀ c : Dev nD,
      r.2.mem ((c : Thread nD τ).loc main_v41_0) = result1 m c ∧ r.2.mem ((c : Thread nD τ).loc main_v43) = result2 m c) :=
  (θ_run defs _ _).mono (fun _ h c => ⟨((h c).1 6).trans (array6 m c),
    ((h c).2 main_v43 (Pipeline.mem_restRefs_of main_v43 (by decide) (by decide))).trans (tail_value m c)⟩) (run_main m ρ)

end Cert.KernelIdeal.Hand

end
-- ==== Proof.Levels.lean ====
/-
  The reference repeats each degree's value over the degree's components. In the program this is a chain of integer
  operations on constants: running totals, a count of the starts, and a lookup by the running count. Here that chain is
  evaluated: component `j` looks up its own degree, and the lookup is in range.
-/
module

public import proofs.«01_k».proof.Proof.Row
public import proofs.«01_k».proof.Proof.Gen.ReferenceIdeal.Run
public import Idealize.ShloMosaic.Lib.Pointwise
public import Idealize.ShloMosaic.Lib.Tactic.CleanTypes
public import Idealize.ShloMosaic.Lib.Claim

@[expose] public section

set_option maxRecDepth 16384

noncomputable section

namespace Cert.ReferenceIdeal.Hand

open Idealize.ShloMosaic Idealize.ShloMosaic.TcCoe Idealize.SL.Sem
open Cert.ReferenceIdeal Cert.ReferenceIdeal.Value
open Cert.Row

variable (V : Valuation τ sig (Elt Ideal))

/-- The first component of each degree. -/
theorem starts : (res_main_v130 V : IVec S3 32) = fun i => ![0#32, 1#32, 4#32] (i 0) := by
  unfold res_main_v130 res_main_c
  clean_types
  funext i
  revert i
  decide +kernel

/-- The degree of each component, counted from the starts. -/
theorem degrees : (res_main_v142 V : IVec S9 32) = fun i => BitVec.ofNat 32 (degree (i 0)).val := by
  unfold res_main_v142
  rw [starts]
  clean_types
  funext i
  revert i
  decide +kernel

/-- The index that component `j` looks up. -/
theorem lookup (j : Fin 9) : (res_main_call13_v5 V : IVec S9x1 32) (ix2 j 0) = BitVec.ofNat 32 (degree j).val := by
  unfold res_main_call13_v5
  rw [degrees]
  clean_types
  revert j
  decide +kernel

end Cert.ReferenceIdeal.Hand
end
-- ==== Proof.ReferenceValue.lean ====
/-
  What the reference's two results hold after its run, at an index: the doubled features plus the linear layer of the
  doubled features and the degrees' invariants, and the doubled components plus their products with the layer's value
  at their degree.
-/
module

public import proofs.«01_k».proof.Proof.Levels
public import Idealize.ShloMosaic.Lib.ReduceAll

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Cert.Row

section Terms

variable (V : Valuation τ sig (Elt Ideal))

/-- The invariant features, as numbers. -/
def feats (n : Fin 10000) (k : Fin 128) : EReal := (V (Proc.devRef .tc main_arg0) : Vec Ideal S10000x128 .f32) (ix2 n k)
/-- The equivariant features. -/
def comps (n : Fin 10000) (j : Fin 9) : EReal := (V (Proc.devRef .tc main_arg1) : Vec Ideal S10000x9 .f32) (ix2 n j)
/-- The linear layer's weights. -/
def weights (q k : Fin 131) : EReal := (V (Proc.devRef .tc main_arg23) : Vec Ideal S131x131 .f32) (ix2 q k)
/-- The linear layer's bias. -/
def biases (q : Fin 131) : EReal := (V (Proc.devRef .tc main_arg24) : Vec Ideal S131 .f32) (ix1 q)

/-- The layer at node `n` and output `q`. -/
def layerAt (n : Fin 10000) (q : Fin 131) : EReal := layer (feats V n) (comps V n) (fun k => weights V q k) (biases V q)

/-- The reference's linear layer at an index. -/
theorem layer_value (n : Fin 10000) (q : Fin 131) :
    (res_main_v124 V : FVec Ideal S10000x131 .f32) (ix2 n q) = layerAt V n q := by
  unfold res_main_v124 res_main_v101 res_main_v102
  clean_types
  pointwise
  exact joined_layer (feats V n) (comps V n) (fun k => weights V q k) (biases V q)

/-- The reference's first result at an index. -/
theorem value1 (n : Fin 10000) (q : Fin 128) :
    (addf (res_main_v101 V) (extractStridedSlice S10000x128 ![0, 0] (res_main_v124 V) slices_S10000x131_S10000x128_0_0)
        : FVec Ideal S10000x128 .f32) (ix2 n q)
      = ((feats V n q + feats V n q) + layerAt V n (featureRow q) : EReal) := by
  refine Eq.trans ?_ (congrArg (fun z : EReal => (feats V n q + feats V n q) + z) (layer_value V n (featureRow q)))
  generalize res_main_v124 V = Y
  unfold res_main_v101
  clean_types
  pointwise
  rfl

/-- The mask of the look-ups that stay in range. -/
def inRange (ix : IVec S9x1 32) : IVec S10000x9 1 :=
  broadcastInDim S10000x9 ![1] bcast_S9_S10000x9_1 (Host.reduce IntOp.andi (andi (cmpi .sge ix (broadcastInDim S9x1 ![] bcast_S_S9x1 (constantI S_ 32 0#32))) (cmpi .sle ix (broadcastInDim S9x1 ![0, 1] bcast_S1x1_S9x1_0_1 (broadcastInDim S1x1 ![1] bcast_S1_S1x1_1 (constantI S1 32 2#32))))) (constantI S_ 1 1#1) reducesTo_S9x1_S9_d1 h_S_)

/-- Every look-up of a degree is in range. -/
theorem inRange_value (ix : IVec S9x1 32) (h : ∀ j : Fin 9, ix (ix2 j 0) = BitVec.ofNat 32 (degree j).val) (n : Fin 10000) (j : Fin 9) :
    inRange ix (ix2 n j) = 1#1 := by
  have e : ix = fun i => BitVec.ofNat 32 (degree (i 0)).val := funext fun i => by
    have hi : i = ix2 (i 0) 0 := by
      funext a
      match a with
      | ⟨0, _⟩ => rfl
      | ⟨1, _⟩ => exact Subsingleton.elim (α := Fin 1) _ _
    rw [hi]
    exact h (i 0)
  subst e
  refine Host.reduce_andi_one _ _ _ _ _ rfl fun i => ?_
  revert i
  decide +kernel

/-- The look-up along the degrees, read at an index. -/
theorem gather_value (x : FVec Ideal S10000x3 .f32) (ix : IVec S9x1 32) (h : ∀ j : Fin 9, ix (ix2 j 0) = BitVec.ofNat 32 (degree j).val)
    (n : Fin 10000) (j : Fin 9) :
    Host.gather gather_S10000x3_S9x1_S10000x9_0_1_n_n_1_1_100001 x ix (ix2 n j) = x (ix2 n (degree j)) := by
  unfold Host.gather
  refine congrArg x (funext fun a => Fin.ext ?_)
  rcases (by decide : ∀ a : Fin 2, a = 0 ∨ a = 1) a with rfl | rfl
  · show _ + _ + _ = n.val
    unfold GatherDims.start GatherDims.batchCoord GatherDims.offCoord
    rw [dif_neg (by decide), dif_neg (by decide), dif_pos (by decide)]
    exact Nat.zero_add n.val
  · show _ + _ + _ = (degree j).val
    unfold GatherDims.start GatherDims.batchCoord GatherDims.offCoord
    rw [dif_pos (by decide), dif_neg (by decide), dif_neg (by decide)]
    have e : ∀ i : S9x1.Idx, i = ix2 j 0 → (ix i).toInt.toNat = (degree j).val := fun i hi => by
      rw [hi, h]
      exact (by decide : ∀ d : Fin 3, (BitVec.ofNat 32 d.val).toInt.toNat = d.val) (degree j)
    rw [e _ (funext fun b => Fin.ext (by
      rcases (by decide : ∀ b : Fin 2, b = 0 ∨ b = 1) b with rfl | rfl
      · rfl
      · rfl))]
    exact min_eq_left (Nat.lt_succ_iff.mp (degree j).isLt)

/-- The reference's second result at an index. -/
theorem value2 (n : Fin 10000) (j : Fin 9) :
    (addf (res_main_v102 V) (mulf (select (inRange (res_main_call13_v5 V)) (Host.gather gather_S10000x3_S9x1_S10000x9_0_1_n_n_1_1_100001 (extractStridedSlice S10000x3 ![0, 128] (res_main_v124 V) slices_S10000x131_S10000x3_0_128) (res_main_call13_v5 V)) (broadcastInDim S10000x9 ![] bcast_S_S10000x9 (constant S_ .f32 0x7FC00000#32))) (res_main_v102 V))
        : FVec Ideal S10000x9 .f32) (ix2 n j)
      = ((comps V n j + comps V n j) + layerAt V n (degreeRow (degree j)) * (comps V n j + comps V n j) : EReal) := by
  have hm := inRange_value (res_main_call13_v5 V) (lookup V) n j
  have hg := gather_value (extractStridedSlice S10000x3 ![0, 128] (res_main_v124 V) slices_S10000x131_S10000x3_0_128) (res_main_call13_v5 V) (lookup V) n j
  have hl := layer_value V n (degreeRow (degree j))
  have hs : (extractStridedSlice S10000x3 ![0, 128] (res_main_v124 V) slices_S10000x131_S10000x3_0_128 : FVec Ideal S10000x3 .f32) (ix2 n (degree j))
      = layerAt V n (degreeRow (degree j)) := by
    refine Eq.trans ?_ hl
    generalize res_main_v124 V = Y
    pointwise
    rfl
  have he : (res_main_v102 V : FVec Ideal S10000x9 .f32) (ix2 n j) = (comps V n j + comps V n j : EReal) := by
    unfold res_main_v102
    clean_types
    pointwise
    rfl
  refine congrArg₂ (fun y z : EReal => y + z) he (congrArg₂ (fun y z : EReal => y * z) ?_ he)
  exact (if_pos hm).trans (hg.trans hs)

end Terms

/-- The first result the reference leaves. -/
def result1 (V : Valuation τ sig (Elt Ideal)) : Vec Ideal S10000x128 .f32 := fun i =>
  ((feats V (i 0) (i 1) + feats V (i 0) (i 1)) + layerAt V (i 0) (featureRow (i 1)) : EReal)

/-- The second result the reference leaves. -/
def result2 (V : Valuation τ sig (Elt Ideal)) : Vec Ideal S10000x9 .f32 := fun i =>
  ((comps V (i 0) (i 1) + comps V (i 0) (i 1))
    + layerAt V (i 0) (degreeRow (degree (i 1))) * (comps V (i 0) (i 1) + comps V (i 0) (i 1)) : EReal)

/-- An index of two axes is made of its coordinates. -/
theorem idx_eq {a b : Nat} (i : (⟨2, ![a, b]⟩ : Shape).Idx) : i = ix2 (i 0) (i 1) := by
  funext k
  rcases (by decide : ∀ k : Fin 2, k = 0 ∨ k = 1) k with rfl | rfl
  · rfl
  · rfl

/-- The whole of the first result. -/
theorem whole1 (V : Valuation τ sig (Elt Ideal)) :
    (addf (res_main_v101 V) (extractStridedSlice S10000x128 ![0, 0] (res_main_v124 V) slices_S10000x131_S10000x128_0_0)
        : FVec Ideal S10000x128 .f32) = result1 V :=
  funext fun i => (congrArg _ (idx_eq i)).trans (value1 V (i 0) (i 1))

/-- The whole of the second result. -/
theorem whole2 (V : Valuation τ sig (Elt Ideal)) :
    (addf (res_main_v102 V) (mulf (select (inRange (res_main_call13_v5 V)) (Host.gather gather_S10000x3_S9x1_S10000x9_0_1_n_n_1_1_100001 (extractStridedSlice S10000x3 ![0, 128] (res_main_v124 V) slices_S10000x131_S10000x3_0_128) (res_main_call13_v5 V)) (broadcastInDim S10000x9 ![] bcast_S_S10000x9 (constant S_ .f32 0x7FC00000#32))) (res_main_v102 V))
        : FVec Ideal S10000x9 .f32) = result2 V :=
  funext fun i => (congrArg _ (idx_eq i)).trans (value2 V (i 0) (i 1))

end Cert.ReferenceIdeal.Hand

end
-- ==== Proof.Tie.lean ====
/-
  The two programs' results from equal arguments: equal entry for entry, the second where the equivariant features are
  finite.
-/
module

public import proofs.«01_k».proof.Proof.KernelValue
public import proofs.«01_k».proof.Proof.ReferenceValue
public import proofs.«01_k».proof.Defs

@[expose] public section

set_option maxRecDepth 16384

noncomputable section

namespace Cert.Tie

open Idealize.ShloMosaic Idealize.ShloMosaic.TcCoe Idealize.SL.Sem
open Cert.Row

/-- The word of the precondition's bound is infinity. -/
theorem bits_top : (Ideal.ofBits .f32 0x7F800000#32 : EReal) = ⊤ := by
  simp [Ideal.ofBits, Ideal.ieee]

/-- An extended real whose absolute value is below infinity is neither infinity. -/
theorem finite_of_abs (x : EReal) (h : Ideal.cmp .olt (max x (-x)) (Ideal.ofBits .f32 0x7F800000#32) = 1#1) : x ≠ ⊤ ∧ x ≠ ⊥ := by
  rw [bits_top] at h
  have hlt : max x (-x) < (⊤ : EReal) := by
    by_contra hn
    simp [Ideal.cmp, hn] at h
  refine ⟨fun e => ?_, fun e => ?_⟩
  · rw [e] at hlt
    simp at hlt
  · rw [e] at hlt
    simp at hlt

section Results

variable [Cert.Pre_finite_ev.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The precondition, at one entry. -/
theorem finite_entry (hpre : Cert.Pre_KernelIdeal_finite_ev m) (c : Dev Cert.KernelIdeal.nD) (n : Fin 10000) (j : Fin 9) :
    Cert.KernelIdeal.Hand.comps m c n j ≠ ⊤ ∧ Cert.KernelIdeal.Hand.comps m c n j ≠ ⊥ :=
  finite_of_abs _ (congrFun (hpre c) (ix2 n j))

/-- The arguments that the results read, equal on the two sides. -/
structure Agree (c : Dev Cert.KernelIdeal.nD) : Prop where
  feats : ∀ n k, Cert.ReferenceIdeal.Hand.feats (StableHlo.launchContents m' c) n k = Cert.KernelIdeal.Hand.feats m c n k
  comps : ∀ n j, Cert.ReferenceIdeal.Hand.comps (StableHlo.launchContents m' c) n j = Cert.KernelIdeal.Hand.comps m c n j
  weights : ∀ q k, Cert.ReferenceIdeal.Hand.weights (StableHlo.launchContents m' c) q k = Cert.KernelIdeal.Hand.weights m c q k
  biases : ∀ q, Cert.ReferenceIdeal.Hand.biases (StableHlo.launchContents m' c) q = Cert.KernelIdeal.Hand.biases m c q

variable {m m'}
variable {c : Dev Cert.KernelIdeal.nD}

/-- The layer of the two sides. -/
theorem layer_tie (h : Agree m m' c) (n : Fin 10000) (q : Fin 131) :
    Cert.ReferenceIdeal.Hand.layerAt (StableHlo.launchContents m' c) n q = Cert.KernelIdeal.Hand.layerAt m c n q := by
  unfold Cert.ReferenceIdeal.Hand.layerAt Cert.KernelIdeal.Hand.layerAt
  rw [funext (h.feats n), funext (h.comps n), funext (h.weights q), h.biases q]

/-- The first results at an index. -/
theorem entry1 (h : Agree m m' c) (n : Fin 10000) (q : Fin 128) :
    ((Cert.ReferenceIdeal.Hand.feats (StableHlo.launchContents m' c) n q + Cert.ReferenceIdeal.Hand.feats (StableHlo.launchContents m' c) n q)
        + Cert.ReferenceIdeal.Hand.layerAt (StableHlo.launchContents m' c) n (featureRow q) : EReal)
      = Cert.KernelIdeal.Hand.feats m c n q * 2 + Cert.KernelIdeal.Hand.layerAt m c n (featureRow q) := by
  rw [layer_tie h, h.feats, self_add, mul_comm]

/-- The second results at an index where the equivariant feature is finite. -/
theorem entry2 (hpre : Cert.Pre_KernelIdeal_finite_ev m) (h : Agree m m' c) (n : Fin 10000) (j : Fin 9) :
    ((Cert.ReferenceIdeal.Hand.comps (StableHlo.launchContents m' c) n j + Cert.ReferenceIdeal.Hand.comps (StableHlo.launchContents m' c) n j)
        + Cert.ReferenceIdeal.Hand.layerAt (StableHlo.launchContents m' c) n (degreeRow (degree j))
          * (Cert.ReferenceIdeal.Hand.comps (StableHlo.launchContents m' c) n j + Cert.ReferenceIdeal.Hand.comps (StableHlo.launchContents m' c) n j) : EReal)
      = Cert.KernelIdeal.Hand.comps m c n j * (2 * Cert.KernelIdeal.Hand.layerAt m c n (degreeRow (degree j)) + 2) := by
  rw [layer_tie h, h.comps]
  exact (component_eq _ _ (finite_entry m hpre c n j).1 (finite_entry m hpre c n j).2).symm

/-- The first results are equal. -/
theorem tie1 (h : Agree m m' c) :
    Cert.ReferenceIdeal.Hand.result1 (StableHlo.launchContents m' c) = Cert.KernelIdeal.Hand.result1 m c :=
  funext fun i => entry1 h (i 0) (i 1)

/-- The second results are equal where the equivariant features are finite. -/
theorem tie2 (hpre : Cert.Pre_KernelIdeal_finite_ev m) (h : Agree m m' c) :
    Cert.ReferenceIdeal.Hand.result2 (StableHlo.launchContents m' c) = Cert.KernelIdeal.Hand.result2 m c :=
  funext fun i => entry2 hpre h (i 0) (i 1)

end Results

end Cert.Tie

end
-- ==== Proof.lean ====
/-
  The proof of the certificate's claim: the three frames, the claim that the idealized kernel is the kernel, and the
  equality of the two results with the reference's, for finite equivariant features.
-/
module

public import proofs.«01_k».proof.Proof.Tie
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_ev
public import Idealize.ShloMosaic.Adequacy
public import Idealize.ShloMosaic.Init

@[expose] public section

noncomputable section

namespace Cert.Proof

open Idealize.ShloMosaic Idealize.SL.Sem Cert.Kernel

/-- The kernel leaves its arguments and its counters as it found them. -/
theorem frame_kernel : Cert.quiescent_Kernel := fun m g _ => Cert.Kernel.Gen.frame m g

/-- So does the kernel at the extended reals. -/
theorem frame_ideal : Cert.quiescent_KernelIdeal := fun m g _ => Cert.KernelIdeal.Gen.frame m g

/-- The same under the precondition. -/
theorem frame_ideal_finite : Cert.quiescent_KernelIdeal_pre_finite_ev := fun m g _ => Cert.KernelIdeal.Gen.frame m g

/-- The reference writes none of its arguments and has no counter. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The same under the precondition. -/
theorem frame_reference_finite : Cert.quiescent_ReferenceIdeal_pre_finite_ev := fun m g _ => frame_reference m g trivial

/-- The two results of the kernel are the reference's. -/
theorem results : Cert.algebraic_KernelIdeal_ReferenceIdeal_pre_finite_ev := by
  intro m g m' g' hpre hagree
  have hA : ∀ c, Cert.Tie.Agree m m' c := fun c => by
    have h0 := (hagree c).1
    have h1 := (hagree c).2.1
    have h23 := (hagree c).2.2.2.2.2.2.2.2.2.2.2.2.2.2.2.2.2.2.2.2.2.2.2.1
    have h24 := (hagree c).2.2.2.2.2.2.2.2.2.2.2.2.2.2.2.2.2.2.2.2.2.2.2.2
    exact ⟨fun n k => congrFun h0 (ix2 n k), fun n j => congrFun h1 (ix2 n j), fun q k => congrFun h23 (ix2 q k), fun q => congrFun h24 (ix1 q)⟩
  refine ⟨fun c => Cert.KernelIdeal.Hand.result1 m c, fun c => Cert.KernelIdeal.Hand.result2 m c, ?_, ?_⟩
  · exact (θ_run Cert.KernelIdeal.defs _ _).mono (fun _ h c => ⟨(h.1 c).1, (h.1 c).2, h.2 c⟩)
      (θ_run_and (Cert.KernelIdeal.Hand.run m g) (Cert.KernelIdeal.Gen.unchanged m g))
  · exact (θ_run Cert.ReferenceIdeal.defs _ _).mono
      (fun _ h c => ⟨((h c).1.trans (Cert.ReferenceIdeal.Hand.whole1 _)).trans (Cert.Tie.tie1 (hA c)),
        ((h c).2.1.trans (Cert.ReferenceIdeal.Hand.whole2 _)).trans (Cert.Tie.tie2 hpre (hA c)), (h c).2.2⟩)
      (Cert.ReferenceIdeal.Value.run m' g')

theorem claim : Cert.Claim :=
  ⟨Cert.Kernel.Gen.facts, Cert.KernelIdeal.Gen.facts, Cert.ReferenceIdeal.Gen.facts, Cert.Pre_finite_ev.Gen.facts,
    frame_kernel, frame_ideal, frame_ideal_finite, frame_reference, frame_reference_finite, trivial, results⟩

end Cert.Proof

end
